-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x64 : Shape := ⟨2, ![32768, 64]⟩
abbrev S_ : Shape := ⟨0, ![]⟩
abbrev S16 : Shape := ⟨1, ![16]⟩
abbrev S1 : Shape := ⟨1, ![1]⟩

abbrev nBuf : Table → Nat
  | .hbm => 6
  | .local .scVector .vmem => 2
  | _ => 0

abbrev bufTy : (tb : Table) → Fin (nBuf tb) → BufTy
  | .hbm, ⟨0, _⟩ => ⟨S32768x64, .f32⟩
  | .hbm, ⟨1, _⟩ => ⟨S_, .i32⟩
  | .hbm, ⟨2, _⟩ => ⟨S16, .i32⟩
  | .hbm, ⟨3, _⟩ => ⟨S16, .i32⟩
  | .hbm, ⟨4, _⟩ => ⟨S1, .i32⟩
  | .hbm, ⟨5, _⟩ => ⟨S_, .i32⟩
  | .local .scVector .vmem, ⟨0, _⟩ => ⟨S16, .i32⟩
  | .local .scVector .vmem, ⟨1, _⟩ => ⟨S16, .i32⟩
  | _, _ => ⟨S32768x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v68 : IVec S16 32) : Prop :=
  (∀ a x, ((![v68] : Fin 1 → IVec S16 32) a x).toNat < S16.size a)
theorem k0_idx1_inb : ∀ (v68 : IVec S16 32) (k0_hw1 : k0_chk1 v68), ∀ a x, ((![v68] : Fin 1 → IVec S16 32) a x).toNat < S16.size a := fun v68 k0_hw1 => k0_hw1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x64 : Shape := ⟨2, ![32768, 64]⟩
abbrev S_ : Shape := ⟨0, ![]⟩
abbrev S10 : Shape := ⟨1, ![10]⟩
abbrev S1 : Shape := ⟨1, ![1]⟩

abbrev nBuf : Space → Nat
  | .hbm => 41
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S_, .i32⟩
  | .hbm, ⟨2, _⟩ => ⟨S10, .f32⟩
  | .hbm, ⟨3, _⟩ => ⟨S_, .f32⟩
  | .hbm, ⟨4, _⟩ => ⟨S10, .f32⟩
  | .hbm, ⟨5, _⟩ => ⟨S10, .f32⟩
  | .hbm, ⟨6, _⟩ => ⟨S_, .f32⟩
  | .hbm, ⟨7, _⟩ => ⟨S_, .f32⟩
  | .hbm, ⟨8, _⟩ => ⟨S10, .f32⟩
  | .hbm, ⟨9, _⟩ => ⟨S10, .f32⟩
  | .hbm, ⟨10, _⟩ => ⟨S_, .f32⟩
  | .hbm, ⟨11, _⟩ => ⟨S_, .f32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S10, .f32⟩
  | .hbm, ⟨25, _⟩ => ⟨S10, .f32⟩
  | .hbm, ⟨26, _⟩ => ⟨S10, .i32⟩
  | .hbm, ⟨27, _⟩ => ⟨S10, .i32⟩
  | .hbm, ⟨28, _⟩ => ⟨S10, .i1⟩
  | .hbm, ⟨29, _⟩ => ⟨S10, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S_, .i32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.IdealTile.lean ====
/-
  One vector subcore's run of the capacity kernel, at any float instance.

  The body copies the sixteen copies of the capacity from HBM into the subcore's memory, computes the bin
  edges lane by lane, scatters them into the second scratch, and — on subcore 0 of SparseCore 0 alone —
  copies that scratch out to HBM. `tile_body` states what a subcore takes and returns: a read share of the
  capacity array, unchanged; and, on the leading subcore, the output array, which ends at `scattered` of the
  capacity array over whatever the scratch held.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, its ghost state and its arrays -/

/-- The labels of the program's table: the SparseCore body's and no pipeline's. -/
abbrev Labs : Labels := Pipeline.Sig Λ₀ (Fin 0) fun p => (pcfgs (F := F) p).Adm
/-- The program's one SparseCore launch. -/
abbrev K : SparseCore.Cfg τ sig (Labs (F := F)) 1 := sc (F := F)
/-- The bodies the launch dispatches to. -/
abbrev D [FloatOps F] : Defs nD τ sig (Elt F) (Labs (F := F)) := Pipeline.defs pcfgs defs₀
/-- No recursion, so no variants: at the bodies' table, -/
abbrev 𝒱₀ : Variants := Variants.none
/-- and at the launch's. -/
abbrev 𝒱 : Variants := 𝒱₀.lift
/-- The launch's own variant. -/
abbrev v₀ : 𝒱.V := Sum.inl none

/-- The handshakes' rounds. -/
abbrev UH : Type := URounds (GSem nD τ sig) ℕ
/-- The program's ghost state: the handshakes' rounds beside the copies' counters. -/
abbrev UU : Type := UH × Counters

local notation "𝕄" => MT nD τ sig (HIx 1) (Elt F) ℕ UU ℕ

/-- The handshakes' rounds as the left factor of the ghost state. -/
abbrev EH : Emb UH (MT nD τ sig (HIx 1) (Elt F) ℕ UU ℕ) := embL

-- the kernel's four memrefs as the printed body table passes them
local notation "capM" => (Memref.whole Cert.KernelIdeal.main_v0_scv : Memref Cert.KernelIdeal.sig Kind.scVector Space.hbm Cert.KernelIdeal.S16 EltTy.i32)
local notation "outM" => (Memref.whole Cert.KernelIdeal.main_v1_scv : Memref Cert.KernelIdeal.sig Kind.scVector Space.hbm Cert.KernelIdeal.S16 EltTy.i32)
local notation "capS" => (Memref.whole Cert.KernelIdeal.cc0_scratch0 : Memref Cert.KernelIdeal.sig Kind.scVector Space.vmem Cert.KernelIdeal.S16 EltTy.i32)
local notation "outS" => (Memref.whole Cert.KernelIdeal.cc0_scratch1 : Memref Cert.KernelIdeal.sig Kind.scVector Space.vmem Cert.KernelIdeal.S16 EltTy.i32)

/-- The capacity array (sixteen copies of the capacity) in device `d`'s HBM, -/
abbrev capLoc (d : Dev nD) : Loc nD τ sig := (SparseCore.T d).loc main_v0
/-- and the kernel's output array. -/
abbrev outLoc (d : Dev nD) : Loc nD τ sig := (SparseCore.T d).loc main_v1

variable [FloatOps F]

/-! ## What the body computes -/

/-- The lanes' numbers. -/
abbrev lanes : IVec S16 32 := iota .scVector S16 32 [0] iota_S16_d0_w32_scVector

/-- Where each lane scatters to: 0 on the selected lane, 15 on the others. -/
abbrev target (cap : Vec F S16 .i32) : IVec S16 32 := k0_pay1 (F := F) cap lanes (k0_pay2 (F := F)) (k0_pay3 (F := F))

/-- Every lane scatters inside the sixteen-element scratch, whatever the floats are: its index is 0 or 15. -/
theorem target_inb (cap : Vec F S16 .i32) : k0_chk1 (target cap) := by
  intro a x
  obtain rfl : a = 0 := Subsingleton.elim _ _
  show (if _ = 1#1 then 0#32 else 15#32 : BitVec 32).toNat < 16
  split <;> decide

/-- The output scratch after the body: what it held, with each lane's edge scattered to its target. -/
abbrev scattered (cap : Vec F S16 .i32) (f₀ : Vec F S16 .i32) : Vec F S16 .i32 :=
  storeIdx (F := F) (e := .i32) f₀ ![target cap] (k0_pay2 (F := F)) (fun _ => 1#1) false (k0_idx1_inb _ (target_inb cap))

/-! ## One subcore -/

section Body

variable (d : Dev nD) (L : grid0.Coords)

/-- The SparseCore the task runs on, -/
abbrev cV (L : grid0.Coords) : Fin τ.nSC := (L 0).castLE hcore0
/-- and the vector subcore. -/
abbrev jV (L : grid0.Coords) : Fin τ.nSub := (L 1).castLE hsub0

/-- The subcore's semaphore for the copy in, -/
abbrev inCell (d : Dev nD) (c : Fin τ.nSC) (i : Fin τ.nSub) : GSem nD τ sig := (V d c i, .dma cc0_scoped0.sem)
/-- and for the copy out. -/
abbrev outCell (d : Dev nD) (c : Fin τ.nSC) (i : Fin τ.nSub) : GSem nD τ sig := (V d c i, .dma cc0_scoped1.sem)

omit [FloatOps F] in
/-- The subcore's semaphores at zero: the two the body names, and the rest. -/
theorem sems_split :
    (ownSems0 (V d (cV L) (jV L)) : sProp 𝕄)
      = iprop(semVal (inCell d (cV L) (jV L)) 0 ∗ semVal (outCell d (cV L) (jV L)) 0
          ∗ bigSep (((ownCells (V d (cV L) (jV L))).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scoped1.sem : SemLoc sig).isScoped .scVector = true; decide⟩⟩)]

omit [FloatOps F] in
/-- The subcore's buffers at some contents: the two scratches, and the rest. -/
theorem bufs_split :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The output array as a leading subcore's task takes it (at `f`), nothing for another's. -/
def outIn (lead : Prop) [Decidable lead] (f : Buf (Elt F) (outLoc d)) : sProp 𝕄 := if lead then outLoc d ↦{fullShare} f else iprop(emp)

/-- The output array as a leading subcore's task returns it: scattered over something; nothing for another's. -/
def outBack (lead : Prop) [Decidable lead] (cap : Buf (Elt F) (capLoc d)) : sProp 𝕄 :=
  if lead then iprop(∃ f₀ : Vec F S16 .i32, outLoc d ↦{fullShare} scattered (F := F) cap f₀) else iprop(emp)

/-- The body's test for the leading subcore, on its coordinates. -/
abbrev leadBit (L : grid0.Coords) : BitVec 1 :=
  Scalar.cmpi .ne (Scalar.extui (Scalar.andi (Scalar.cmpi .eq (BitVec.ofNat 32 (L 0).val) 0#32) (Scalar.cmpi .eq (BitVec.ofNat 32 (L 1).val) 0#32)) : BitVec 32) 0#32

/-- The second scratch as the scatter addresses it: all of it, by its one rectangle. -/
abbrev outA : Memref sig .scVector .vmem S16 .i32 := (outS).slice (Rect.unit (s := S16) ![0] S16.size inb_S16_S16_0) (fun _ => rfl)

/-- The scatter's rectangle places element `j` at element `j`. -/
theorem outA_emb (j : S16.Idx) : outA.view.emb j = j :=
  funext fun (a : Fin 1) => Fin.ext (by
    obtain rfl : a = 0 := Subsingleton.elim _ _
    show 0 + 1 * (j 0).val = (j 0).val
    omega)

/-- The same of the rectangle taken whole. -/
theorem outA_emb' (j : S16.Idx) : (outA.access (.whole S16)).emb j = j :=
  (congrArg (fun x : S16.Idx => outA.view.emb x) (Rect.emb_whole_apply S16 j)).trans (outA_emb j)

/-- Every element of the scratch is in that rectangle. -/
theorem outA_set : (outA.access (.whole S16)).set = Finset.univ := by
  rw [View.set_slice, Rect.set_whole]
  exact Finset.eq_univ_of_forall fun j => Finset.mem_map.mpr ⟨j, Finset.mem_univ _, outA_emb j⟩

omit [FloatOps F] in
/-- The second scratch whole is the scratch by the scatter's rectangle. -/
theorem outS_access (g : Buf (Elt F) ((V d (cV L) (jV L)).loc cc0_scratch1)) :
    ((outS).view.loc (V d (cV L) (jV L)) ↦{fullShare} g : sProp 𝕄)
      = ((outA.access (.whole S16)).loc (V d (cV L) (jV L)) ↦[(outA.access (.whole S16)).set]{fullShare} g) := by
  rw [show (outA.access (.whole S16)).set = Finset.univ from outA_set]

omit [FloatOps F] in
/-- Rewriting the scratch through the scatter's rectangle by `h` of what it reads there leaves `h` of its contents. -/
theorem outA_rewrite (g : Vec F S16 .i32) (h : Vec F S16 .i32 → Vec F S16 .i32) :
    (outA.access (.whole S16)).write (Elt F) g (h ((outA.access (.whole S16)).read (Elt F) g)) Finset.univ = h g := by
  have hr : (outA.access (.whole S16)).read (Elt F) g = g := funext fun j => by
    rw [View.read_apply, outA_emb']; rfl
  rw [hr]
  funext j
  have := View.write_emb_of_mem (v := outA.access (.whole S16)) (Val := Elt F) g (h g) (Finset.mem_univ j)
  rw [outA_emb'] at this
  exact this

/-- A load of the whole first scratch reads element `j` at element `j`. -/
theorem load_idx (j : S16.Idx) : (Rect.unit (s := S16) ![0] S16.size inb_S16_S16_0).toLoadRect.idx j = j :=
  funext fun (a : Fin 1) => Fin.ext (by
    obtain rfl : a = 0 := Subsingleton.elim _ _
    show 0 + 1 * (j 0).val = (j 0).val
    omega)

omit [FloatOps F] in
/-- The first scratch after the copy in reads, loaded whole, as what was copied. -/
theorem loaded (g v : Vec F S16 .i32) :
    (capS).view.readAt (Elt F) (Rect.unit (s := S16) ![0] S16.size inb_S16_S16_0).toLoadRect
        (View.write (Elt F) (capS).view g v Finset.univ) = v := by
  funext j
  show View.write (Elt F) (capS).view g v Finset.univ ((capS).view.emb _) = _
  rw [load_idx]
  exact View.write_emb_of_mem (v := (capS).view) (Val := Elt F) g v (Finset.mem_univ j)

omit [FloatOps F] in
/-- A whole array overwritten by a copy holds what was copied. -/
theorem copied (g v : Vec F S16 .i32) : View.write (Elt F) (outM).view g v Finset.univ = v :=
  funext fun j => View.write_emb_of_mem (v := (outM).view) (Val := Elt F) g v (Finset.mem_univ j)

omit [FloatOps F] in
/-- A copy out of the whole second scratch sends its contents. -/
theorem sent (g : Vec F S16 .i32) : ReadAs.same.apply (View.read (Elt F) (outS).view g) = g := rfl

/-- The task of subcore `(L 0, L 1)`: from a share of the capacity array at `cap` and, if leading, the output
    array, it returns the share and, if leading, the output array scattered. -/
theorem tile_body (hF : (K (F := F)).Facts) (q : PosShare TreeShare) (cap : Buf (Elt F) (capLoc d)) (f : Buf (Elt F) (outLoc d))
    (O : CellTallies nD τ sig (HIx 1)) (W : Waits sig (HIx 1)) (hO : ∀ g, O g none = 0) :
    iprop(levAts (K (F := F)).L (K (F := F)).lev ∗ emp
        ∗ ((capLoc d ↦{q} cap) ∗ outIn d (leadBit L = 1#1) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_call L capM (Memref.isWhole_whole _) outM (Memref.isWhole_whole _) capS (Memref.isWhole_whole _) outS (Memref.isWhole_whole _)
            cc0_scoped0 cc0_scoped1)
          fun _ => iprop(((capLoc d ↦{q} cap) ∗ outBack d (leadBit L = 1#1) cap)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hchk : ∀ v, k0_chk1 (k0_pay1 (F := F) v lanes (k0_pay2 (F := F)) (k0_pay3 (F := F))) := target_inb
  rw [cc0_sc_call_eq_skeleton]; unfold cc0_sc_call_skel
  rw [k0_part1_eq_skeleton]; unfold k0_part1_skel
  rw [(K (F := F)).scopedBufs_V hF d (cV L) (jV L), SparseCore.Cfg.scopedSems0_V (Val := Elt F) d (cV L) (jV L), sems_split, bufs_split]
  iintro ⟨#Hlv, -, ⟨Hcap, Hout⟩, ⟨⟨%fs, Hs⟩, ⟨%fo, Ho⟩, Hbufs⟩, ⟨HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hcap' := (show (capLoc d ↦{q} cap : sProp 𝕄) ⊢ (capM).view.loc (V d (cV L) (jV L)) ↦{q} cap from Entails.rfl) $$ Hcap
  ihave Hs' := (show ((V d (cV L) (jV L)).loc cc0_scratch0 ↦{fullShare} fs : sProp 𝕄) ⊢ (capS).view.loc (V d (cV L) (jV L)) ↦{fullShare} fs from Entails.rfl) $$ Hs
  ihave Ho' := (show ((V d (cV L) (jV L)).loc cc0_scratch1 ↦{fullShare} fo : sProp 𝕄) ⊢ (outS).view.loc (V d (cV L) (jV L)) ↦{fullShare} fo from Entails.rfl) $$ Ho
  -- the copy in, its wait, the load and the index check, then the scatter into the second scratch
  sl_exec
  ihave Ho'' := (Entails.of_eq (outS_access d L fo)) $$ Ho'
  iapply (SparseCore.wp_vectorStoreIdx 𝒱₀ (V d (cV L) (jV L)) none Set.univ (base := outA)) $$ Ho''; iintro Ho
  ihave Ho' := (Entails.of_eq ((outS_access d L _).symm.trans
    (congrArg (fun g => ((outS).view.loc (V d (cV L) (jV L)) ↦{fullShare} g : sProp 𝕄))
      (outA_rewrite (F := F) fo (fun g => storeIdx (F := F) (e := .i32) g ![tile_body.sl.v68 d L cap fs] (k0_pay2 (F := F)) (fun _ => 1#1) false
        (k0_idx1_inb _ (hchk _))))))) $$ Ho
  by_cases hl : leadBit L = 1#1
  · have hl' : Scalar.cmpi .ne (Scalar.extui (tile_body.sl.v2 L) : BitVec 32) 0#32 = 1#1 := hl
    ihave Hout' := (show outIn d (leadBit L = 1#1) f ⊢ ((outM).view.loc (V d (cV L) (jV L)) ↦{fullShare} f : sProp 𝕄)
      from Entails.of_eq (if_pos hl)) $$ Hout
    sl_exec
    sl_step
    isplitl [Hcap' Hout']
    · isplitl [Hcap']
      · iexact Hcap'
      iapply (show ((outM).view.loc (V d (cV L) (jV L)) ↦{fullShare} scattered (F := F) cap fo : sProp 𝕄) ⊢ outBack d (leadBit L = 1#1) cap from
        (exists_intro (Φ := fun f₀ : Vec F S16 .i32 => (outLoc d ↦{fullShare} scattered (F := F) cap f₀ : sProp 𝕄)) fo).trans (Entails.of_eq (if_pos hl).symm))
      have hv : View.write (Elt F) (outM).view f (tile_body.sl.dma0_1 d L cap hchk fs fo) Finset.univ = scattered (F := F) cap fo := by
        rw [copied]
        have h68 : tile_body.sl.v68 d L cap fs = target cap := by
          show k0_pay1 _ lanes _ _ = _
          exact congrArg (fun v => k0_pay1 (F := F) v lanes (k0_pay2 (F := F)) (k0_pay3 (F := F))) (loaded fs cap)
        have key : ∀ (t : IVec S16 32) (ht : k0_chk1 t), t = target cap →
            storeIdx (F := F) (e := .i32) fo ![t] (k0_pay2 (F := F)) (fun _ => 1#1) false (k0_idx1_inb _ ht) = scattered (F := F) cap fo := by
          rintro t ht rfl; rfl
        refine Eq.trans ?_ (key _ (hchk _) h68)
        unfold tile_body.sl.dma0_1
        exact sent _
      rw [← hv]
      iexact Hout'
    isplitl [Hs' Ho' Hbufs]
    · isplitl [Hs']
      · iexists _; iexact Hs'
      isplitl [Ho']
      · iexists _; iexact Ho'
      · iexact Hbufs
    isplitl [HsemI HsemO Hsems]
    · isplitl [HsemI]
      · iexact HsemI
      isplitl [HsemO]
      · iexact HsemO
      · iexact Hsems
    iexists (insert (SemLoc.dma ⟨1, by decide⟩, (default : HIx 1)) (insert (SemLoc.dma ⟨0, by decide⟩, (default : HIx 1)) W))
    isplitl []
    · ipureintro; intro p _
      rcases p.2 with _ | q
      · exact .inr (.inl rfl)
      · exact .inr (.inr (congrArg some (Subsingleton.elim q 0)))
    · iexact HO
  · have hl' : ¬ Scalar.cmpi .ne (Scalar.extui (tile_body.sl.v2 L) : BitVec 32) 0#32 = 1#1 := hl
    sl_exec
    sl_step
    isplitl [Hcap']
    · isplitl [Hcap']
      · iexact Hcap'
      iapply (show (iprop(emp) : sProp 𝕄) ⊢ outBack d (leadBit L = 1#1) cap from Entails.of_eq (if_neg hl).symm)
      iempintro
    isplitl [Hs' Ho' Hbufs]
    · isplitl [Hs']
      · iexists _; iexact Hs'
      isplitl [Ho']
      · iexists _; iexact Ho'
      · iexact Hbufs
    isplitl [HsemI HsemO Hsems]
    · isplitl [HsemI]
      · iexact HsemI
      isplitl [HsemO]
      · iexact HsemO
      · iexact Hsems
    iexists (insert (SemLoc.dma ⟨0, by decide⟩, (default : HIx 1)) W)
    isplitl []
    · ipureintro; intro p _
      rcases p.2 with _ | q
      · exact .inr (.inl rfl)
      · exact .inr (.inr (congrArg some (Subsingleton.elim q 0)))
    · iexact HO

end Body

end Cert.KernelIdeal.Tile

end
-- ==== Proof.IdealRun.lean ====
/-
  The whole program's run, at any float instance: @main broadcasts the capacity over sixteen elements, the
  launch runs every subcore's task (`Tile.tile_body`), and @main takes the output array's element 0.
  `run_main` states what every final state has: the arguments as they were, the result at `resultOf` of the
  capacity over some earlier contents of the scratch, and every semaphore at zero.
-/
module

public import proofs.«01_k».proof.Proof.IdealTile

@[expose] public section

noncomputable section

namespace Cert.KernelIdeal.Run

open Cert.KernelIdeal Cert.KernelIdeal.Gen Cert.KernelIdeal.Tile
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type}

local notation "𝕄" => MT nD τ sig (HIx 1) (Elt F) ℕ UU ℕ

variable (m : (ℓ : Loc nD τ sig) → Buf (Elt F) ℓ) (ρ : Dev nD → PrngReg)

/-- The launch's semaphores are distinct and unscoped, and it shares no buffer among a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## What the program computes -/

/-- The capacity as @main gives it to the kernel: sixteen copies. -/
def copies (cap : Vec F S_ .i32) : Vec F S16 .i32 := broadcastInDim S16 ![] bcast_S_S16 cap

/-- @main's result: element 0 of the kernel's output. -/
def resultOf (cap : Vec F S_ .i32) (f₀ : Vec F S16 .i32) : Vec F S_ .i32 :=
  shapeCast S_ (extractStridedSlice S1 ![0] (scattered (F := F) (copies cap) f₀) slices_S16_S1_0) shapeCasts_S1_S_

/-! ## What passes between the threads -/

/-- The capacity argument on device `d`, -/
abbrev argLoc (d : Dev nD) : Loc nD τ sig := (SparseCore.T d).loc main_arg1
/-- and the tokens, which only their number is read of. -/
abbrev tokLoc (d : Dev nD) : Loc nD τ sig := (SparseCore.T d).loc main_arg0
/-- The program's result on device `d`. -/
abbrev resLoc (d : Dev nD) : Loc nD τ sig := (SparseCore.T d).loc main_v3

/-- The capacity array's contents at the call. -/
abbrev capAt (d : Dev nD) : Buf (Elt F) (capLoc d) := copies (F := F) (m (argLoc d))

/-- SparseCore `c`'s share of the capacity array, -/
def coreShare (c : Fin 2) : PosShare TreeShare := dealOf fullShare Finset.univ c
/-- and that of its subcore `i`. -/
def taskShare (c : Fin 2) (i : Fin 16) : PosShare TreeShare := dealOf (coreShare c) Finset.univ i

/-- A task's coordinates. -/
def coordsOf (c : Fin (grid0.bound 0)) (i : Fin (grid0.bound 1)) : grid0.Coords :=
  fun | 0 => c | 1 => i | ⟨_ + 2, h⟩ => absurd h (Nat.not_lt.2 (Nat.le_add_left _ _))

/-- The leading task is subcore 0 of SparseCore 0. -/
theorem lead_iff : ∀ (c : Fin 2) (i : Fin 16), leadBit (coordsOf c i) = 1#1 ↔ c = 0 ∧ i = 0 := by decide

/-- What the launch hands over: to SparseCore 0 a share of the capacity array and the output array, to SparseCore 1 a
    share of the capacity array; each deals its share among its subcores, and SparseCore 0 gives the output array to
    its subcore 0. They come back as they went, the output array scattered. -/
def P : (K (F := F)).Pay (nD := nD) (Val := Elt F) (Name := ℕ) (U := UU) where
  st := fun | 0 => fun d (c : Fin 2) => iprop((capLoc d ↦{coreShare c} capAt m d) ∗ outIn d (c = 0) (m (outLoc d)))
  dn := fun | 0 => fun d (c : Fin 2) => iprop((capLoc d ↦{coreShare c} capAt m d) ∗ outBack d (c = 0) (capAt m d))
  go := fun | 0 => fun d (c : Fin 2) (i : Fin 16) => iprop((capLoc d ↦{taskShare c i} capAt m d) ∗ outIn d (leadBit (coordsOf c i) = 1#1) (m (outLoc d)))
  td := fun | 0 => fun d (c : Fin 2) (i : Fin 16) => iprop((capLoc d ↦{taskShare c i} capAt m d) ∗ outBack d (leadBit (coordsOf c i) = 1#1) (capAt m d))
  x := fun _ _ => iprop(emp)

instance outIn_storable (d : Dev nD) (p : Prop) [Decidable p] (f : Buf (Elt F) (outLoc d)) : BI.Storable (upEmb : UEmb _ 𝕄) (outIn d p f) := by
  unfold outIn; split <;> infer_instance
instance outBack_storable (d : Dev nD) (p : Prop) [Decidable p] (cap : Buf (Elt F) (capLoc d)) : BI.Storable (upEmb : UEmb _ 𝕄) (outBack d p cap) := by
  unfold outBack; split <;> infer_instance
instance P_storable : (P (F := F) m).IsStorable where
  st q d c := by match q with | 0 => unfold P; infer_instance
  dn q d c := by match q with | 0 => unfold P; infer_instance
  go q d c i := by match q with | 0 => unfold P; infer_instance
  td q d c i := by match q with | 0 => unfold P; infer_instance

/-! ## The tasks -/

theorem defs₀_vector (c : Fin τ.nSC) (s : Fin τ.nSub) :
    defs₀ (F := F) (.scVector c s) 0 ()
      = SparseCore.onTile hcore0 hsub0 (fun c s => cc0_sc_call (coordsOf c s) (Memref.whole main_v0_scv) (Memref.isWhole_whole _) (Memref.whole main_v1_scv)
          (Memref.isWhole_whole _) (Memref.whole cc0_scratch0) (Memref.isWhole_whole _) (Memref.whole cc0_scratch1) (Memref.isWhole_whole _) cc0_scoped0 cc0_scoped1)
        ⟨⟩ c s := rfl

/-- Every subcore's task does what the launch asks of it. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsOf ⟨_, hci.1⟩ ⟨_, hci.2⟩) facts (taskShare c i) (capAt m d) (m (outLoc d)) O W hO

omit [FloatOps F] in
/-- Nothing, any number of times, is nothing. -/
theorem nothing {I : Type} (s : Finset I) : (bigSep s fun _ => iprop(emp)) = (iprop(emp) : sProp 𝕄) := bigSep_emp_const s

omit [FloatOps F] in
/-- Of a family that is `A` at one index, under a condition, and nothing elsewhere, there is `A` under that condition. -/
theorem bigSep_single {n : ℕ} (p : Prop) [Decidable p] (A : sProp 𝕄) (on : Fin (n + 1) → Prop) [DecidablePred on] (hon : ∀ i, on i ↔ p ∧ i = 0) :
    (bigSep Finset.univ fun i : Fin (n + 1) => if on i then A else iprop(emp)) = if p then A else iprop(emp) := by
  rw [SparseCore.bigSep_erase' (Finset.mem_univ (0 : Fin (n + 1))),
    bigSep_congr (Ψ := fun _ => (iprop(emp) : sProp 𝕄)) fun i hi => if_neg fun h => Finset.ne_of_mem_erase hi ((hon i).mp h).2,
    nothing, if_congr (Q := p) (show on 0 ↔ p from ⟨fun h => ((hon 0).mp h).1, fun h => (hon 0).mpr ⟨h, rfl⟩⟩) rfl rfl]
  exact Entails.antisymm sep_emp.1 sep_emp.2

/-- The output array of a SparseCore, dealt to its tasks, -/
theorem outIn_tasks (d : Dev nD) (c : Fin 2) (f : Buf (Elt F) (outLoc d)) :
    (bigSep Finset.univ fun i : Fin 16 => (outIn d (leadBit (coordsOf c i) = 1#1) f : sProp 𝕄)) = outIn d (c = 0) f :=
  bigSep_single (n := 15) (c = 0) _ _ (lead_iff c)
/-- and back from them. -/
theorem outBack_tasks (d : Dev nD) (c : Fin 2) (cap : Buf (Elt F) (capLoc d)) :
    (bigSep Finset.univ fun i : Fin 16 => (outBack d (leadBit (coordsOf c i) = 1#1) cap : sProp 𝕄)) = outBack d (c = 0) cap :=
  bigSep_single (n := 15) (c = 0) _ _ (lead_iff c)

/-- A SparseCore deals what it was handed among its tasks, and what they return is what it returns. -/
theorem vecSplit : (K (F := F)).VecSplit' (P m) 0 := by
  intro d (c : Fin 2)
  show iprop((capLoc d ↦{coreShare c} capAt m d) ∗ outIn d (c = 0) (m (outLoc d))) ⊢ |={Set.univ}=> iprop(
      (bigSep Finset.univ fun i : Fin 16 => iprop((capLoc d ↦{taskShare c i} capAt m d) ∗ outIn d (leadBit (coordsOf c i) = 1#1) (m (outLoc d))))
      ∗ ((bigSep Finset.univ fun i : Fin 16 => iprop((capLoc d ↦{taskShare c i} capAt m d) ∗ outBack d (leadBit (coordsOf c i) = 1#1) (capAt m d)))
          -∗ iprop((capLoc d ↦{coreShare c} capAt m d) ∗ outBack d (c = 0) (capAt m d))))
  rw [bigSep_sep', bigSep_sep', outIn_tasks, outBack_tasks, pointsTo_deal (Finset.univ : Finset (Fin 16)) ⟨0, Finset.mem_univ _⟩ (coreShare c)]
  show _ ⊢ |={Set.univ}=> iprop(((bigSep Finset.univ fun i : Fin 16 => (capLoc d ↦{taskShare c i} capAt m d)) ∗ outIn d (c = 0) (m (outLoc d))) ∗
    (((bigSep Finset.univ fun i : Fin 16 => (capLoc d ↦{taskShare c i} capAt m d)) ∗ outBack d (c = 0) (capAt m d))
      -∗ ((bigSep Finset.univ fun i : Fin 16 => (capLoc d ↦{taskShare c i} capAt m d)) ∗ outBack d (c = 0) (capAt m d))))
  iintro H; imodintro
  isplitl [H]; · iexact H
  iintro H; iexact H

/-! ## The launch's ghost state -/

/-- The handshakes' rounds, and no counter of the copies yet. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## @main on the TensorCore -/

/-- @main's arrays, as the device names them. -/
abbrev tok' : DevRef τ sig := Proc.devRef .tc (main_arg0 : Ref sig .tc)
abbrev arg' : DevRef τ sig := Proc.devRef .tc (main_arg1 : Ref sig .tc)
abbrev cap' : DevRef τ sig := Proc.devRef .tc (main_v0 : Ref sig .tc)
abbrev out' : DevRef τ sig := Proc.devRef .tc (main_v1 : Ref sig .tc)
abbrev one' : DevRef τ sig := Proc.devRef .tc (main_v2 : Ref sig .tc)
abbrev res' : DevRef τ sig := Proc.devRef .tc (main_v3 : Ref sig .tc)

/-- @main's three operations: the broadcast, -/
abbrev opB : HloOp τ sig (Elt F) :=
  StableHlo.unary main_arg1 main_v0 (broadcastInDim S16 ![] bcast_S_S16 : (⟨S_, .i32⟩ : BufTy).Contents (Elt F) → (⟨S16, .i32⟩ : BufTy).Contents (Elt F))
/-- the slice, -/
abbrev opS : HloOp τ sig (Elt F) :=
  StableHlo.unary main_v1 main_v2 ((extractStridedSlice S1 ![0] · slices_S16_S1_0) : (⟨S16, .i32⟩ : BufTy).Contents (Elt F) → (⟨S1, .i32⟩ : BufTy).Contents (Elt F))
/-- and the reshape. -/
abbrev opR : HloOp τ sig (Elt F) := StableHlo.reshape main_v2 main_v3 (rfl : (.i32 : EltTy) = .i32) shapeCasts_S1_S_

/-- Every array of @main's. -/
abbrev All : Finset (DevRef τ sig) := {tok', arg', cap', out', one', res'}

omit [FloatOps F] in
theorem held_all (d : Dev nD) (W : Valuation τ sig (Elt F)) :
    (held (SparseCore.T d) All W : sProp 𝕄) = iprop((tokLoc d ↦{fullShare} W tok') ∗ (argLoc d ↦{fullShare} W arg') ∗ (capLoc d ↦{fullShare} W cap')
      ∗ (outLoc d ↦{fullShare} W out') ∗ ((SparseCore.T d).loc main_v2 ↦{fullShare} W one') ∗ resLoc d ↦{fullShare} W res') := by
  unfold held All
  rw [SparseCore.bigSep_insert' (by decide), SparseCore.bigSep_insert' (by decide), SparseCore.bigSep_insert' (by decide),
    SparseCore.bigSep_insert' (by decide), SparseCore.bigSep_insert' (by decide), bigSep_singleton]

/-- The arrays' contents at launch, -/
def V0 (d : Dev nD) : Valuation τ sig (Elt F) := fun b => m (d, b)
/-- after the broadcast, -/
def V1 (d : Dev nD) : Valuation τ sig (Elt F) := (opB (F := F)).result (V0 m d)
/-- after the call, the output array at `g`, -/
def V2 (d : Dev nD) (g : Vec F S16 .i32) : Valuation τ sig (Elt F) := Function.update (V1 m d) out' g
/-- after the slice, -/
def V3 (d : Dev nD) (g : Vec F S16 .i32) : Valuation τ sig (Elt F) := (opS (F := F)).result (V2 m d g)
/-- and after the reshape. -/
def V4 (d : Dev nD) (g : Vec F S16 .i32) : Valuation τ sig (Elt F) := (opR (F := F)).result (V3 m d g)

omit [FloatOps F] in
/-- At launch the TensorCore holds them all. -/
theorem launch_held (d : Dev nD) : (unscopedBufs d (fun b => m ((SparseCore.T d).loc b)) : sProp 𝕄) = held (SparseCore.T d) All (V0 m d) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton, held_all]
  rfl

/-- The broadcast leaves `copies` of the capacity in the capacity array, -/
theorem V1_cap (d : Dev nD) : V1 m d cap' = capAt m d := StableHlo.unary_result _ _ _ _ _ _
/-- and every other array as it was. -/
theorem V1_of_ne (d : Dev nD) {b : DevRef τ sig} (h : b ∉ ({cap'} : Finset (DevRef τ sig))) : V1 m d b = m (d, b) :=
  (opB (F := F)).result_of_not_mem (V0 m d) h

theorem V2_out (d : Dev nD) (g : Vec F S16 .i32) : V2 m d g out' = g := Function.update_self _ _ _
theorem V2_of_ne (d : Dev nD) (g : Vec F S16 .i32) {b : DevRef τ sig} (h : b ≠ out') : V2 m d g b = V1 m d b := Function.update_of_ne h _ _

theorem V4_of_ne (d : Dev nD) (g : Vec F S16 .i32) {b : DevRef τ sig} (h₃ : b ∉ ({res'} : Finset (DevRef τ sig)))
    (h₂ : b ∉ ({one'} : Finset (DevRef τ sig))) : V4 m d g b = V2 m d g b :=
  ((opR (F := F)).result_of_not_mem (V3 m d g) h₃).trans ((opS (F := F)).result_of_not_mem (V2 m d g) h₂)
/-- At the end the result is the output array's slice reshaped, -/
theorem V4_res (d : Dev nD) (g : Vec F S16 .i32) : V4 m d g res' = shapeCast S_ (extractStridedSlice S1 ![0] g slices_S16_S1_0) shapeCasts_S1_S_ := by
  have h3 : V3 m d g one' = extractStridedSlice S1 ![0] g slices_S16_S1_0 :=
    (StableHlo.unary_result _ _ _ _ _ _).trans (congrArg (fun v => extractStridedSlice S1 ![0] v slices_S16_S1_0) (V2_out m d g))
  refine (StableHlo.reshape_result _ _ _ _ _ _ _).trans ?_
  funext i
  exact congrArg (fun v => shapeCast S_ v shapeCasts_S1_S_ i) h3
/-- and the arguments are as they were at launch. -/
theorem V4_tok (d : Dev nD) (g : Vec F S16 .i32) : V4 m d g tok' = m (tokLoc d) :=
  (V4_of_ne m d g (by decide) (by decide)).trans ((V2_of_ne m d g (by decide)).trans (V1_of_ne m d (by decide)))
theorem V4_arg (d : Dev nD) (g : Vec F S16 .i32) : V4 m d g arg' = m (argLoc d) :=
  (V4_of_ne m d g (by decide) (by decide)).trans ((V2_of_ne m d g (by decide)).trans (V1_of_ne m d (by decide)))

theorem hB : (opB (F := F)).bufs ⊆ All := show ({arg', cap'} : Finset (DevRef τ sig)) ⊆ All by decide
theorem hS : (opS (F := F)).bufs ⊆ All := show ({out', one'} : Finset (DevRef τ sig)) ⊆ All by decide
theorem hR : (opR (F := F)).bufs ⊆ All := show ({one', res'} : Finset (DevRef τ sig)) ⊆ All by decide

/-- What the call takes for the two SparseCores, -/
theorem st_eq (d : Dev nD) : (bigSep Finset.univ fun c : Fin ((K (F := F)).nCore 0) => (P m).st 0 d c)
    = iprop((capLoc d ↦{fullShare} capAt m d) ∗ outLoc d ↦{fullShare} m (outLoc d)) := by
  show (bigSep (Finset.univ : Finset (Fin 2)) fun c => iprop((capLoc d ↦{coreShare c} capAt m d) ∗ outIn d (c = 0) (m (outLoc d)))) = _
  rw [bigSep_sep', pointsTo_deal (Finset.univ : Finset (Fin 2)) ⟨0, Finset.mem_univ _⟩ fullShare]
  congr 1
  exact (bigSep_single (n := 1) True _ (fun c => c = 0) fun i => ⟨fun h => ⟨trivial, h⟩, fun h => h.2⟩).trans (if_pos trivial)
/-- and what it gives back: the output array scattered over something. -/
theorem dn_eq (d : Dev nD) : (bigSep Finset.univ fun c : Fin ((K (F := F)).nCore 0) => (P m).dn 0 d c)
    = iprop((capLoc d ↦{fullShare} capAt m d) ∗ ∃ f₀ : Vec F S16 .i32, outLoc d ↦{fullShare} scattered (F := F) (capAt m d) f₀) := by
  show (bigSep (Finset.univ : Finset (Fin 2)) fun c => iprop((capLoc d ↦{coreShare c} capAt m d) ∗ outBack d (c = 0) (capAt m d))) = _
  rw [bigSep_sep', pointsTo_deal (Finset.univ : Finset (Fin 2)) ⟨0, Finset.mem_univ _⟩ fullShare]
  congr 1
  exact (bigSep_single (n := 1) True _ (fun c => c = 0) fun i => ⟨fun h => ⟨trivial, h⟩, fun h => h.2⟩).trans (if_pos trivial)

/-- What @main leaves on device `d`: the arguments as they were, the result at the kernel's element 0. -/
abbrev FIN (d : Dev nD) : sProp 𝕄 :=
  iprop((tokLoc d ↦{fullShare} m (tokLoc d)) ∗ (argLoc d ↦{fullShare} m (argLoc d)) ∗ ∃ f₀ : Vec F S16 .i32, resLoc d ↦{fullShare} resultOf (F := F) (m (argLoc d)) f₀)

/-- @main's run on device `d`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  -- the broadcast
  iapply (wp_hlo_within 𝒱 (SparseCore.T d) none Set.univ (op := opB) (S := All) hB (V := V0 m d)) $$ [Hb Hheld]
  · isplitl [Hb] <;> iassumption
  iintro ⟨Hb, Hheld⟩
  rw [wp_ret]; imodintro
  ihave Hh := (Entails.of_eq (show held (SparseCore.T d) All ((opB (F := F)).result (V0 m d)) = _ from held_all (F := F) d (V1 m d))) $$ Hheld
  icases Hh with ⟨Htok, Harg, Hcap, Hout, Hone, Hres⟩
  -- the call, over the capacity and the output arrays
  iapply ((K (F := F)).wp_run (D (F := F)) 𝒱 (EH := EH) (P := P m) κ d 0) $$ [Hst Htok Harg Hcap Hout Hone Hres Hb Hts]
  isplitr; · iexact Hctx
  isplitl [Hst]; · iexact Hst
  isplitl [Hcap Hout]
  · rw [st_eq, ← V1_cap, show m (outLoc d) = V1 m d out' from (V1_of_ne m d (b := out') (by decide)).symm]
    isplitl [Hcap] <;> iassumption
  iintro ⟨Hst, Hdn⟩
  ihave Hdn' := (Entails.of_eq (dn_eq m d)) $$ Hdn
  icases Hdn' with ⟨Hcap, %f₀, Hout⟩
  -- the slice
  iapply (wp_hlo_within 𝒱 (SparseCore.T d) none Set.univ (op := opS) (S := All) hS (V := V2 m d (scattered (F := F) (capAt m d) f₀))) $$ [Hb Htok Harg Hcap Hout Hone Hres]
  · isplitl [Hb]; · iexact Hb
    rw [held_all, V2_out, V2_of_ne m d _ (show tok' ≠ out' by decide), V2_of_ne m d _ (show arg' ≠ out' by decide), V2_of_ne m d _ (show cap' ≠ out' by decide),
      V2_of_ne m d _ (show one' ≠ out' by decide), V2_of_ne m d _ (show res' ≠ out' by decide), V1_cap]
    isplitl [Htok]; · iexact Htok
    isplitl [Harg]; · iexact Harg
    isplitl [Hcap]; · iexact Hcap
    isplitl [Hout]; · iexact Hout
    isplitl [Hone] <;> iassumption
  iintro ⟨Hb, Hheld⟩
  rw [wp_ret]; imodintro
  -- the reshape
  iapply (wp_hlo_within 𝒱 (SparseCore.T d) none Set.univ (op := opR) (S := All) hR (V := V3 m d (scattered (F := F) (capAt m d) f₀))) $$ [Hb Hheld]
  · isplitl [Hb]; · iexact Hb
    iexact Hheld
  iintro ⟨Hb, Hheld⟩
  rw [wp_ret]; imodintro
  ihave Hh := (Entails.of_eq (show held (SparseCore.T d) All ((opR (F := F)).result (V3 m d (scattered (F := F) (capAt m d) f₀))) = _ from
    held_all (F := F) d (V4 m d (scattered (F := F) (capAt m d) f₀)))) $$ Hheld
  icases Hh with ⟨Htok, Harg, -, -, -, Hres⟩
  rw [V4_tok, V4_arg, V4_res]
  imodintro
  isplitl [Hst]; · iexact Hst
  isplitr [Hb Hts]
  · isplitl [Htok]; · iexact Htok
    isplitl [Harg]; · iexact Harg
    iexists f₀; iexact Hres
  isplitl [Hb] <;> iassumption

/-- What a final state has on device `d`. -/
def fq (d : Dev nD) (s' : Phys nD τ sig (Elt F)) : Prop :=
  s'.mem.mem (tokLoc d) = m (tokLoc d) ∧ s'.mem.mem (argLoc d) = m (argLoc d) ∧ ∃ f₀ : Vec F S16 .i32, s'.mem.mem (resLoc d) = resultOf (F := F) (m (argLoc d)) f₀

omit [FloatOps F] in
/-- An array wholly owned at some contents has those contents in the machine's state. -/
theorem owned_is (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Htok, Harg, %f₀, Hres⟩, HSI⟩
  ihave H := (owned_is (tokLoc d) _ s') $$ [Htok HSI]
  · isplitl [Htok] <;> iassumption
  icases H with ⟨%htok, HSI⟩
  ihave H := (owned_is (argLoc d) _ s') $$ [Harg HSI]
  · isplitl [Harg] <;> iassumption
  icases H with ⟨%harg, HSI⟩
  ihave H := (owned_is (resLoc d) _ s') $$ [Hres HSI]
  · isplitl [Hres] <;> iassumption
  icases H with ⟨%hres, HSI⟩
  ipureintro; exact ⟨htok, harg, f₀, hres⟩

/-! ## The run -/

/-- What the program's every final state has. -/
def QC : PUnit × MemSt nD τ sig (Elt F) → Prop := fun r =>
  (∀ d : Dev nD, r.2.mem (tokLoc d) = m (tokLoc d) ∧ r.2.mem (argLoc d) = m (argLoc d) ∧ ∃ f₀ : Vec F S16 .i32, r.2.mem (resLoc d) = resultOf (F := F) (m (argLoc d)) f₀)
    ∧ r.2.sem = fun _ => 0

/-- The program runs to the end without fault, and every final state has `QC`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Run

end
-- ==== Proof.Edges.lean ====
/-
  The kernel's bin edges over the real numbers.

  Lane `k` of the kernel computes `64` times the ceiling of `(1024 + 64512 · (2^(k+1) − 1) / 1023) / 64`, the
  ceiling written as a truncation, a comparison and a conditional increment. Here the floating-point operations
  are read as exact real ones (the instance `Ideal`), and the ten edges that the kernel uses are computed:
  `edges_eq` for a lane's own edge, `previous_eq` for the edge before it.
-/
module

public import proofs.«01_k».proof.Proof.IdealRun
public import Idealize.ShloMosaic.PureOps.Ideal
public import Idealize.ShloMosaic.PureOps.Ideal.Laws
public import Idealize.ShloMosaic.Lib.ValueIdxCore

@[expose] public section

noncomputable section

namespace Cert.KernelIdeal.Edges

open Cert.KernelIdeal Cert.KernelIdeal.Gen
open Idealize.ShloMosaic Idealize.ShloMosaic.ValueIdx

/-! ## Real arithmetic -/

/-- The printed constants are these real numbers: the number of weights' sum, -/
theorem bits_1023 : Ideal.ofBits .f32 0x447FC000#32 = ((1023 : ℝ) : EReal) := by
  simp [Ideal.ofBits, Ideal.ieee, -EReal.coe_mul]; norm_num
/-- the length shared out among the bins, -/
theorem bits_64512 : Ideal.ofBits .f32 0x477C0000#32 = ((64512 : ℝ) : EReal) := by
  simp [Ideal.ofBits, Ideal.ieee, -EReal.coe_mul]; norm_num
/-- the least capacity, -/
theorem bits_1024 : Ideal.ofBits .f32 0x44800000#32 = ((1024 : ℝ) : EReal) := by
  simp [Ideal.ofBits, Ideal.ieee, -EReal.coe_mul]; norm_num
/-- the alignment, -/
theorem bits_64 : Ideal.ofBits .f32 0x42800000#32 = ((64 : ℝ) : EReal) := by
  simp [Ideal.ofBits, Ideal.ieee, -EReal.coe_mul]; norm_num
/-- and the base of the weights. -/
theorem bits_2 : Ideal.ofBits .f32 0x40000000#32 = ((2 : ℝ) : EReal) := by
  simp [Ideal.ofBits, Ideal.ieee, -EReal.coe_mul]; norm_num

/-- Dividing one real number by another that is not zero gives the real quotient. -/
theorem div_real (x y : ℝ) (hy : y ≠ 0) : Ideal.div (x : EReal) (y : EReal) = ((x / y : ℝ) : EReal) := by
  rw [Ideal.div_coe hy, ← EReal.coe_mul, mul_one_div]

/-- A real number between a small natural number and the next one truncates to that number's word. -/
theorem fptosi_real (r : ℝ) (n : ℕ) (hn : n < 2 ^ 30) (h1 : (n : ℝ) ≤ r) (h2 : r < n + 1) :
    Ideal.fptosi 32 (r : EReal) = BitVec.ofNat 32 n := by
  have h0 : (0 : ℝ) ≤ r := le_trans (Nat.cast_nonneg n) h1
  have hf : ⌊r⌋ = (n : ℤ) := Int.floor_eq_iff.2 ⟨by simpa using h1, by simpa using h2⟩
  show BitVec.ofInt 32 (max (-((2 ^ (32 - 1) : ℕ) : ℤ)) (min (((2 ^ (32 - 1) : ℕ) : ℤ) - 1) (if 0 ≤ r then ⌊r⌋ else ⌈r⌉))) = _
  rw [if_pos h0, hf, show max (-((2 ^ (32 - 1) : ℕ) : ℤ)) (min (((2 ^ (32 - 1) : ℕ) : ℤ) - 1) (n : ℤ)) = n by
    norm_num; omega]
  exact BitVec.ofInt_natCast 32 n

/-- A small natural number's word reads, as a signed number, as that number. -/
theorem toInt_small (n : ℕ) (hn : n < 2 ^ 30) : (BitVec.ofNat 32 n).toInt = n := by
  have h : (BitVec.ofNat 32 n).toNat = n := by rw [BitVec.toNat_ofNat]; omega
  rw [BitVec.toInt_eq_toNat_of_lt (by omega), h]

/-! ## One lane of the kernel -/

/-- A lane's last steps, from `64512` times the cumulative weight to the edge: divide by the alignment, round up
    by truncating and adding one where the truncation is less, multiply by the alignment. -/
def finish (a : EReal) : BitVec 32 :=
  let q : EReal := Ideal.div (Ideal.ofBits .f32 0x44800000#32 + a) (Ideal.ofBits .f32 0x42800000#32)
  let t : BitVec 32 := Ideal.fptosi 32 q
  let up : BitVec 1 := Ideal.cmp .olt ((t.toInt : ℝ) : EReal) q
  (if up = 1#1 then t + 1#32 else t) * 64#32

/-- A lane's first steps: `64512` times the cumulative weight `w / 1023`. -/
def start (w : BitVec 32) : EReal :=
  Ideal.ofBits .f32 0x477C0000#32 * Ideal.div ((w.toInt : ℝ) : EReal) (Ideal.ofBits .f32 0x447FC000#32)

/-- The first steps are the real product and quotient. -/
theorem start_real (w : BitVec 32) : start w = ((64512 * (w.toInt / 1023) : ℝ) : EReal) := by
  rw [start, bits_64512, bits_1023, div_real _ _ (by norm_num), ← EReal.coe_mul]

/-- The last steps give `64` times the ceiling `n + 1` of the quotient. -/
theorem finish_real (x : ℝ) (n : ℕ) (hn : n < 2 ^ 29) (h1 : (n : ℝ) < (1024 + x) / 64) (h2 : (1024 + x) / 64 ≤ n + 1) :
    finish (x : EReal) = BitVec.ofNat 32 (n + 1) * 64#32 := by
  unfold finish
  rw [bits_1024, bits_64, ← EReal.coe_add, div_real _ _ (by norm_num)]
  generalize (1024 + x) / 64 = q at h1 h2
  dsimp only
  rcases lt_or_eq_of_le h2 with h | h
  · rw [fptosi_real q n (by omega) h1.le h, toInt_small n (by omega)]
    have hlt : (((n : ℤ) : ℝ) : EReal) < (q : EReal) := by exact_mod_cast h1
    rw [show Ideal.cmp .olt (((n : ℤ) : ℝ) : EReal) (q : EReal) = BitVec.ofBool (decide ((((n : ℤ) : ℝ) : EReal) < q)) from rfl,
      decide_eq_true hlt]
    rw [if_pos (by decide), ← BitVec.ofNat_add]
  · have e : q = ((n + 1 : ℕ) : ℝ) := by rw [h]; push_cast; rfl
    subst e
    rw [fptosi_real _ (n + 1) (by omega) le_rfl (by linarith), toInt_small (n + 1) (by omega)]
    have hlt : ¬ ((((n + 1 : ℕ) : ℤ) : ℝ) : EReal) < (((n + 1 : ℕ) : ℝ) : EReal) := by simp
    rw [show Ideal.cmp .olt ((((n + 1 : ℕ) : ℤ) : ℝ) : EReal) (((n + 1 : ℕ) : ℝ) : EReal)
      = BitVec.ofBool (decide (((((n + 1 : ℕ) : ℤ) : ℝ) : EReal) < (((n + 1 : ℕ) : ℝ) : EReal))) from rfl, decide_eq_false hlt]
    rw [if_neg (by decide)]

/-! ## The edges -/

/-- The ten bin edges. -/
def edge : Fin 10 → BitVec 32 := ![1088#32, 1216#32, 1472#32, 1984#32, 3008#32, 5056#32, 9088#32, 17152#32, 33280#32, 65536#32]

/-- The ten edges in units of the alignment, each less one. -/
def unit : Fin 10 → ℕ := ![16, 18, 22, 30, 46, 78, 141, 267, 519, 1023]

/-- An edge is the alignment times its number of units. -/
theorem edge_unit (k : Fin 10) : BitVec.ofNat 32 (unit k + 1) * 64#32 = edge k := by
  revert k; decide

/-- The quotient whose ceiling is an edge's number of units lies between that number less one and it. -/
theorem quotient_bounds (k : Fin 10) :
    (unit k : ℝ) < (1024 + 64512 * ((2 ^ (k.val + 1) - 1) / 1023)) / 64
      ∧ (1024 + 64512 * ((2 ^ (k.val + 1) - 1) / 1023)) / 64 ≤ (unit k : ℝ) + 1 := by
  fin_cases k <;> norm_num [unit]

/-- The signed value of the weights' word up to bin `k`. -/
theorem weights_toInt (k : Fin 10) : (((2#32 <<< k.val) - 1#32).toInt : ℝ) = 2 ^ (k.val + 1) - 1 := by
  have h : ∀ k : Fin 10, ((2#32 <<< k.val) - 1#32).toInt = 2 ^ (k.val + 1) - 1 := by decide
  rw [h k]; push_cast; rfl

/-- A lane that starts from bin `k`'s weights ends at bin `k`'s edge. -/
theorem lane_edge (k : Fin 10) : finish (start ((2#32 <<< k.val) - 1#32)) = edge k := by
  rw [start_real, weights_toInt, finish_real _ (unit k) (by revert k; decide) (quotient_bounds k).1 (quotient_bounds k).2, edge_unit]

/-- A lane's own edge, as the lane computes it. -/
theorem edges_lane (k : Fin 16) : (k0_pay2 (F := Ideal)) (ix1 k) = finish (start ((2#32 <<< k.val) - 1#32)) := by
  fin_cases k <;> rfl

/-- The start of the previous lane's edge, as a lane other than the first computes it. -/
theorem previous_lane (k : Fin 15) : (k0_pay3 (F := Ideal)) (ix1 k.succ) = start ((2#32 <<< k.val) - 1#32) := by
  fin_cases k <;> rfl

/-- The first ten lanes hold the ten edges. -/
theorem edges_eq (k : Fin 10) : (k0_pay2 (F := Ideal)) (ix1 (k.castLE (by decide))) = edge k :=
  (edges_lane _).trans (lane_edge k)

/-- The previous edge, in lanes 1 to 10, is the edge of the lane before. -/
theorem previous_eq (k : Fin 10) : finish ((k0_pay3 (F := Ideal)) (ix1 (k.castLE (by decide) : Fin 15).succ)) = edge k :=
  (congrArg finish (previous_lane _)).trans (lane_edge k)

end Cert.KernelIdeal.Edges

end
-- ==== Proof.Choice.lean ====
/-
  What the kernel returns, over the real numbers: the least edge that is not below the capacity.

  Each lane of the kernel sends its edge to element 0 or to element 15 of the output scratch. Exactly one lane, the
  one of the capacity's bin, sends its edge to element 0 (`target_chosen`, `target_other`), whatever the scratch
  held; so element 0 ends at that edge (`resultOf_eq`).
-/
module

public import proofs.«01_k».proof.Proof.Edges

@[expose] public section

noncomputable section

namespace Cert.KernelIdeal.Choice

open Cert.KernelIdeal Cert.KernelIdeal.Gen Cert.KernelIdeal.Edges
open Idealize.ShloMosaic Idealize.ShloMosaic.ValueIdx
open Cert.KernelIdeal.Tile Cert.KernelIdeal.Run

/-! ## The bin of a capacity -/

/-- `s` is the bin of the capacity `c`: every edge before it is below `c`, and its own is not, unless it is the last. -/
def IsBin (c : ℤ) (s : Fin 10) : Prop :=
  (∀ k : Fin 10, k < s → (edge k).toInt < c) ∧ (s = 9 ∨ c ≤ (edge s).toInt)

/-- The edges increase. -/
theorem edge_mono : ∀ i j : Fin 10, i ≤ j → (edge i).toInt ≤ (edge j).toInt := by decide

/-- Every capacity has a bin. -/
theorem exists_bin (c : ℤ) : ∃ s, IsBin c s := by
  by_cases h : ∃ k : Fin 10, c ≤ (edge k).toInt
  · classical
    refine ⟨Fin.find (fun k => c ≤ (edge k).toInt) h, fun k hk => ?_, Or.inr (Fin.find_spec h)⟩
    exact not_le.1 (Fin.find_min h hk)
  · exact ⟨9, fun k _ => not_le.1 fun hk => h ⟨k, hk⟩, Or.inl rfl⟩

/-! ## A lane's choice -/

/-- A lane's choice, on words: its number, the capacity, its own edge and the previous one. -/
def pick (lane c e p : BitVec 32) : BitVec 32 :=
  Scalar.select
    (((IntOp.cmpi .slt lane 10#32 &&& IntOp.cmpi .sge e c) &&& ((IntOp.cmpi .sgt lane 0#32 &&& IntOp.cmpi .sge p c) ^^^ 1#1))
      ||| (IntOp.cmpi .eq lane 9#32 &&& IntOp.cmpi .slt e c)) 0#32 15#32

/-- Lane `k` is chosen: it is one of the ten and its edge is the first not below the capacity, or it is the tenth
    and its edge is below the capacity. -/
def Chosen (k : Fin 16) (c e p : ℤ) : Prop :=
  (k.val < 10 ∧ c ≤ e ∧ ¬ (0 < k.val ∧ c ≤ p)) ∨ (k.val = 9 ∧ e < c)

instance (k : Fin 16) (c e p : ℤ) : Decidable (Chosen k c e p) := by unfold Chosen; infer_instance

/-- A lane picks element 0 if it is chosen and element 15 otherwise. -/
theorem pick_eq (k : Fin 16) (c e p : BitVec 32) :
    pick (BitVec.ofNat 32 k.val) c e p = if Chosen k c.toInt e.toInt p.toInt then 0#32 else 15#32 := by
  have h10 : IntOp.cmpi .slt (BitVec.ofNat 32 k.val) 10#32 = BitVec.ofBool (decide (k.val < 10)) := by revert k; decide
  have h0 : IntOp.cmpi .sgt (BitVec.ofNat 32 k.val) 0#32 = BitVec.ofBool (decide (0 < k.val)) := by revert k; decide
  have h9 : IntOp.cmpi .eq (BitVec.ofNat 32 k.val) 9#32 = BitVec.ofBool (decide (k.val = 9)) := by revert k; decide
  have he : IntOp.cmpi .sge e c = BitVec.ofBool (decide (c.toInt ≤ e.toInt)) := rfl
  have hp : IntOp.cmpi .sge p c = BitVec.ofBool (decide (c.toInt ≤ p.toInt)) := rfl
  have hl : IntOp.cmpi .slt e c = BitVec.ofBool (decide (e.toInt < c.toInt)) := rfl
  have bits : ∀ a b d f g h : Bool,
      Scalar.select (((BitVec.ofBool a &&& BitVec.ofBool b) &&& ((BitVec.ofBool d &&& BitVec.ofBool f) ^^^ 1#1))
        ||| (BitVec.ofBool g &&& BitVec.ofBool h)) 0#32 15#32 = if (a && b && !(d && f)) || (g && h) then 0#32 else 15#32 := by decide
  rw [pick, h10, h0, h9, he, hp, hl, bits]
  refine if_congr ?_ rfl rfl
  simp only [Chosen, Bool.or_eq_true, Bool.and_eq_true, decide_eq_true_eq, Bool.not_eq_true', Bool.and_eq_false_iff, decide_eq_false_iff_not]
  tauto

/-- Lane `k`'s target, as the lane computes it. -/
theorem target_lane (cap : Vec Ideal S16 .i32) (k : Fin 16) :
    target (F := Ideal) cap (ix1 k)
      = pick (BitVec.ofNat 32 k.val) (cap (ix1 k)) ((k0_pay2 (F := Ideal)) (ix1 k)) (finish ((k0_pay3 (F := Ideal)) (ix1 k))) := by
  fin_cases k <;> rfl

variable (cap : Vec Ideal S16 .i32) (c : BitVec 32) (hc : ∀ i, cap i = c) (s : Fin 10) (hs : IsBin c.toInt s)

include hc hs

/-- The lane of the capacity's bin targets element 0. -/
theorem target_chosen : target (F := Ideal) cap (ix1 (s.castLE (by decide))) = 0#32 := by
  rw [target_lane, hc, pick_eq, edges_eq, if_pos]
  rcases le_or_gt c.toInt (edge s).toInt with h | h
  · refine Or.inl ⟨s.isLt, h, fun ⟨h0, hp⟩ => ?_⟩
    obtain ⟨j, rfl⟩ : ∃ j : Fin 9, s = j.succ := ⟨s.pred (by intro h; subst h; exact absurd h0 (by decide)), by simp⟩
    have hj := previous_eq j.castSucc
    have hlt := hs.1 j.castSucc (Fin.castSucc_lt_succ)
    rw [← hj] at hlt
    exact absurd hp (not_le.2 hlt)
  · rcases hs.2 with h9 | h9
    · exact Or.inr ⟨by subst h9; rfl, h⟩
    · exact absurd h9 (not_le.2 h)

/-- Every other lane targets element 15. -/
theorem target_other (k : Fin 16) (hk : k ≠ s.castLE (by decide)) : target (F := Ideal) cap (ix1 k) = 15#32 := by
  rw [target_lane, hc, pick_eq, if_neg]
  have hv : k.val ≠ s.val := fun h => hk (Fin.ext h)
  by_cases h10 : k.val < 10
  · obtain ⟨i, rfl⟩ : ∃ i : Fin 10, k = i.castLE (by decide) := ⟨⟨k.val, h10⟩, rfl⟩
    rw [edges_eq]
    rcases lt_or_gt_of_ne (show i ≠ s from fun h => hv (congrArg Fin.val h)) with h | h
    · have hlt := hs.1 i h
      rintro (⟨-, he, -⟩ | ⟨h9, -⟩)
      · omega
      · have : i.val = 9 := h9
        have := s.isLt
        omega
    · have hle : c.toInt ≤ (edge s).toInt := hs.2.resolve_left fun h9 => by
        subst h9; have := i.isLt; have : 9 < i.val := h; omega
      obtain ⟨j, rfl⟩ : ∃ j : Fin 9, i = j.succ := ⟨i.pred (by intro h0; subst h0; exact absurd h (by simp)), by simp⟩
      have hj := previous_eq j.castSucc
      have hp : c.toInt ≤ (edge j.castSucc).toInt := hle.trans (edge_mono _ _ (Fin.le_castSucc_iff.2 h))
      have he : c.toInt ≤ (edge j.succ).toInt := hle.trans (edge_mono _ _ h.le)
      rw [← hj] at hp
      rintro (⟨-, -, hn⟩ | ⟨-, hlt⟩)
      · exact hn ⟨Nat.succ_pos _, hp⟩
      · omega
  · rintro (⟨h, -⟩ | ⟨h, -⟩) <;> omega

omit hc hs

/-! ## The scatter -/

/-- A left fold of updates of which only those at `k₀` change what is read, each to `v`: `v` if `k₀` is in the list. -/
theorem foldl_read {α β γ : Type} (step : β → α → β) (read : β → γ) (k₀ : α) (v : γ)
    (hit : ∀ g, read (step g k₀) = v) (miss : ∀ g k, k ≠ k₀ → read (step g k) = read g) (l : List α) (g : β) :
    (k₀ ∈ l → read (l.foldl step g) = v) ∧ (read g = v → read (l.foldl step g) = v) := by
  induction l generalizing g with
  | nil => exact ⟨fun h => absurd h (by simp), fun h => h⟩
  | cons a l ih =>
    have hkeep : read g = v → read (step g a) = v := fun h => by
      by_cases ha : a = k₀
      · subst ha; exact hit g
      · rw [miss g a ha]; exact h
    refine ⟨fun h => ?_, fun h => (ih (step g a)).2 (hkeep h)⟩
    rcases List.mem_cons.1 h with h | h
    · exact (ih _).2 (h ▸ hit g)
    · exact (ih _).1 h

/-- A conditional whose condition holds, whichever way the condition is decided. -/
theorem branch_true {α : Type} {p : Prop} {d : Decidable p} (h : p) (a b : α) : @ite α p d a b = a := if_pos h
/-- A conditional whose condition does not hold, whichever way the condition is decided. -/
theorem branch_false {α : Type} {p : Prop} {d : Decidable p} (h : ¬ p) (a b : α) : @ite α p d a b = b := if_neg h

include hc hs in
/-- Element 0 of the output scratch ends at the edge of the capacity's bin. -/
theorem scattered_zero (f₀ : Vec Ideal S16 .i32) : scattered (F := Ideal) cap f₀ (ix1 (0 : Fin 16)) = edge s := by
  rw [← edges_eq s]
  refine (foldl_read _ (fun g : Vec Ideal S16 .i32 => g (ix1 (0 : Fin 16))) (s.castLE (by decide) : Fin 16) _ (fun g => ?_) (fun g k hk => ?_) _ f₀).1
    (List.mem_finRange _)
  · have ht := target_chosen cap c hc s hs
    have hl : (Shape.ofLane (s.castLE (by decide) : Fin 16) : S16.Idx) = ix1 (s.castLE (by decide)) := eq_ix1 _
    refine (branch_true ?_ _ _).trans (congrArg (k0_pay2 (F := Ideal)) hl)
    intro a
    rw [show a = 0 from Subsingleton.elim _ _]
    show 0 = (target (F := Ideal) cap (Shape.ofLane (s.castLE (by decide) : Fin 16))).toNat
    rw [hl, ht]; rfl
  · have ht := target_other cap c hc s hs k hk
    have hl : (Shape.ofLane k : S16.Idx) = ix1 k := eq_ix1 _
    refine branch_false ?_ _ _
    intro h
    have h0 : 0 = (target (F := Ideal) cap (Shape.ofLane k)).toNat := h 0
    rw [hl, ht] at h0
    exact absurd h0 (by decide)

/-- What the kernel returns is the edge of the capacity's bin. -/
theorem resultOf_eq (cap : Vec Ideal S_ .i32) (f₀ : Vec Ideal S16 .i32) (s : Fin 10) (hs : IsBin (cap ix0).toInt s) :
    resultOf (F := Ideal) cap f₀ = fun _ => edge s := by
  funext i
  have h := scattered_zero (copies (F := Ideal) cap) (cap ix0) (fun i => congrArg cap (eq_ix0 _)) s hs f₀
  rw [← h]
  unfold resultOf shapeCast
  exact congrArg (scattered (F := Ideal) (copies (F := Ideal) cap) f₀) (funext fun a => Fin.ext (by
    rw [show a = 0 from Subsingleton.elim _ _]
    show 0 + (Shape.reshapeEquiv shapeCasts_S1_S_ i 0).val = 0
    have := (Shape.reshapeEquiv shapeCasts_S1_S_ i 0).isLt
    change _ < 1 at this
    omega))

end Cert.KernelIdeal.Choice

end
-- ==== Proof.Reference.lean ====
/-
  What the reference returns, over the real numbers: the least edge that is not below the capacity.

  The reference's bins are the powers of two over their sum, summed up to each bin, scaled, divided by the alignment,
  rounded up and multiplied by the alignment. Read over the real numbers these are the kernel's ten edges
  (`bins_eq`). It then counts the edges below the capacity, at most nine, and takes the edge at that count, which is
  the edge of the capacity's bin (`res_eq`).
-/
module

public import proofs.«01_k».proof.Proof.Choice
public import proofs.«01_k».proof.Proof.Gen.ReferenceIdeal
public import Idealize.ShloMosaic.Lib.IdealHost

@[expose] public section

noncomputable section

namespace Cert.ReferenceIdeal.Bins

open Cert.ReferenceIdeal Cert.ReferenceIdeal.Gen Cert.KernelIdeal.Edges Cert.KernelIdeal.Choice
open Idealize.ShloMosaic Idealize.ShloMosaic.ValueIdx
open scoped BigOperators

/-! ## The reference's stages -/

/-- The weights: the powers of two. -/
def weights : FVec Ideal S10 .f32 :=
  Host.powf (broadcastInDim S10 ![] bcast_S_S10 (constant S_ .f32 0x40000000#32)) (sitofp .f32 (iotaInDim S10 32 0))

/-- The weights over their sum. -/
def shares : FVec Ideal S10 .f32 :=
  Host.divf weights (broadcastInDim S10 ![] bcast_S_S10
    (Host.reduceAdd weights (constant S_ .f32 0x00000000#32) reducesTo_S10_S_d0 h_S_))

/-- The shares summed up to each bin. -/
def cumulative : FVec Ideal S10 .f32 :=
  Host.reduceWindowAdd ![10] ![1] ![9] ![0] shares (broadcastInDim S_ ![] bcast_S_S_ (constant S_ .f32 0x00000000#32))
    reduceWindows_S10_S10_w10s1p9_0 h_S_

/-- The bins' edges. -/
def bins : IVec S10 32 :=
  fptosi 32 (mulf (Host.ceil (Host.divf (addf (broadcastInDim S10 ![] bcast_S_S10 (constant S_ .f32 0x44800000#32))
    (mulf (broadcastInDim S10 ![] bcast_S_S10 (constant S_ .f32 0x477C0000#32)) cumulative))
    (broadcastInDim S10 ![] bcast_S_S10 (constant S_ .f32 0x42800000#32))))
    (broadcastInDim S10 ![] bcast_S_S10 (constant S_ .f32 0x42800000#32)))

/-- The number of edges below the capacity, at most nine. -/
def count (b : IVec S10 32) (cap : IVec S_ 32) : IVec S_ 32 :=
  minsi (Host.reduce IntOp.addi (extui 32 (cmpi .slt b (broadcastInDim S10 ![] bcast_S_S10 cap)) natLt_1_32)
    (constantI S_ 32 0#32) reducesTo_S10_S_d0 h_S_) (constantI S_ 32 9#32)

/-- The position that the edge is read at: the count, ten more if it is negative. -/
def position (n : IVec S_ 32) : IVec S_ 32 :=
  select (cmpi .slt n (constantI S_ 32 0#32)) (addi n (constantI S_ 32 10#32)) n

/-- The edge at a position. -/
def edgeAt (b : IVec S10 32) (p : IVec S_ 32) : IVec S_ 32 :=
  shapeCast S_ (Host.dynamicSlice S1 b (fun _ => (p (Shape.Idx.first h_S_)).toInt) sliceFits_S10_S1) shapeCasts_S1_S_

/-! ## The edges -/

/-- A weight is the power of two. -/
theorem weights_apply (k : Fin 10) : weights (ix1 k) = ((2 ^ k.val : ℝ) : EReal) := by
  have hp : weights (ix1 k) = Ideal.pow (Ideal.ofBits .f32 0x40000000#32) (((BitVec.ofNat 32 k.val).toInt : ℝ) : EReal) := rfl
  rw [hp, bits_2, toInt_small k.val (by omega)]
  show ((Real.rpow 2 ((k.val : ℤ) : ℝ) : ℝ) : EReal) = _
  congr 1
  exact (congrArg (Real.rpow 2) (Int.cast_natCast k.val)).trans (Real.rpow_natCast 2 k.val)

/-- A sum over the indices of the ten bins is the sum over the bins. -/
theorem sum_bins (f : S10.Idx → EReal) : ∑ i, f i = ∑ k : Fin 10, f (ix1 k) :=
  (Fintype.sum_equiv ⟨fun k : Fin 10 => (ix1 k : S10.Idx), fun i => i 0, fun _ => rfl, fun i => (eq_ix1 i).symm⟩ _ _ fun _ => rfl).symm

/-- A finite sum of real numbers among the extended ones is the real sum. -/
theorem sum_real {n : ℕ} (f : Fin n → ℝ) : ∑ k, ((f k : ℝ) : EReal) = ((∑ k, f k : ℝ) : EReal) :=
  (map_sum (⟨⟨Real.toEReal, rfl⟩, EReal.coe_add⟩ : ℝ →+ EReal) f Finset.univ).symm

/-- The weights add up to 1023. -/
theorem weights_sum : Host.reduceAdd weights (constant S_ .f32 0x00000000#32) reducesTo_S10_S_d0 h_S_ ix0 = ((1023 : ℝ) : EReal) := by
  show Ideal.ofBits .f32 0x00000000#32 + ∑ i ∈ Finset.univ.filter (fun i => reducesTo_S10_S_d0.drop i = ix0), weights i = _
  rw [Ideal.ofBits_zero_f32, zero_add, Finset.filter_true_of_mem (fun i _ => funext fun a => a.elim0), sum_bins]
  simp only [weights_apply]
  rw [sum_real]
  congr 1
  simp [Fin.sum_univ_succ]
  norm_num

/-- A share is its weight over 1023. -/
theorem shares_apply (k : Fin 10) : shares (ix1 k) = ((2 ^ k.val / 1023 : ℝ) : EReal) := by
  have h : shares (ix1 k) = Ideal.div (weights (ix1 k))
      (Host.reduceAdd weights (constant S_ .f32 0x00000000#32) reducesTo_S10_S_d0 h_S_ ix0) :=
    congrArg (Ideal.div (weights (ix1 k)))
      (congrArg (Host.reduceAdd weights (constant S_ .f32 0x00000000#32) reducesTo_S10_S_d0 h_S_) (eq_ix0 _))
  rw [h, weights_sum, weights_apply, div_real _ _ (by norm_num)]

/-- A left fold that adds, from zero, is the sum over the list's members. -/
theorem foldl_sum {n : ℕ} (g : Fin n → EReal) : (List.finRange n).foldl (fun r i => r + g i) 0 = ∑ i, g i := by
  rw [← List.sum_ofFn, List.ofFn_eq_map, List.sum_eq_foldl, List.foldl_map]

/-- The window's positions, in order, are its coordinates. -/
theorem window_coord (n : Fin 10) : ((Shape.rowMajor ⟨1, ![10]⟩).symm (n : Fin (Shape.numel ⟨1, ![10]⟩)) (0 : Fin 1)).val = n.val := by
  revert n; decide

/-- What the window of bin `k` holds at position `n`: the share of bin `k + n − 9` if there is one, else zero. -/
def windowTerm (k n : Fin 10) : ℝ := if 9 ≤ k.val + n.val then 2 ^ (k.val + n.val - 9) / 1023 else 0

/-- The windows' terms of bin `k` add up to `2^(k+1) − 1` over 1023. -/
theorem windowTerm_sum (k : Fin 10) : ∑ n, windowTerm k n = (2 ^ (k.val + 1) - 1) / 1023 := by
  fin_cases k <;> simp [windowTerm, Fin.sum_univ_succ] <;> norm_num

/-- A dependent conditional whose condition holds, whichever way the condition is decided. -/
theorem dite_true {α : Type} {p : Prop} {d : Decidable p} (h : p) (a : p → α) (b : ¬ p → α) : @dite α p d a b = a h := dif_pos h
/-- A dependent conditional whose condition does not hold, whichever way the condition is decided. -/
theorem dite_false {α : Type} {p : Prop} {d : Decidable p} (h : ¬ p) (a : p → α) (b : ¬ p → α) : @dite α p d a b = b h := dif_neg h

/-- The shares up to bin `k` add up to `2^(k+1) − 1` over 1023. -/
theorem cumulative_apply (k : Fin 10) : cumulative (ix1 k) = (((2 ^ (k.val + 1) - 1) / 1023 : ℝ) : EReal) := by
  rw [← windowTerm_sum, ← sum_real, ← foldl_sum]
  have hz : (broadcastInDim S_ ![] bcast_S_S_ (constant (F := Ideal) S_ .f32 0x00000000#32)) (Shape.Idx.first h_S_) = (0 : EReal) :=
    Ideal.ofBits_zero_f32
  unfold cumulative Host.reduceWindowAdd
  rw [hz, Ideal.hostReduceWindowAdd_def]
  unfold Ideal.hostReduceWindowAdd Host.reduceWindow
  show List.foldl _ 0 (List.finRange 10) = _
  refine congrArg (fun f => List.foldl f (0 : EReal) (List.finRange 10)) (funext fun r => funext fun n => ?_)
  refine congrArg (fun x => r + x) ?_
  have hn := window_coord n
  unfold windowTerm
  by_cases h : 9 ≤ k.val + n.val
  · rw [if_pos h, ← shares_apply ⟨k.val + n.val - 9, by omega⟩]
    refine (dite_true ?_ _ _).trans (congrArg shares (funext fun a => Fin.ext ?_))
    · intro a
      rw [show a = 0 from Subsingleton.elim _ _]
      show 9 ≤ k.val * 1 + _ ∧ k.val * 1 + _ - 9 < 10
      rw [hn]
      omega
    · rw [show a = 0 from Subsingleton.elim _ _]
      show k.val * 1 + _ - 9 = k.val + n.val - 9
      rw [hn]
      omega
  · rw [if_neg h]
    refine dite_false ?_ _ _
    intro hin
    have h0 : 9 ≤ k.val * 1 + ((Shape.rowMajor ⟨1, ![10]⟩).symm (n : Fin (Shape.numel ⟨1, ![10]⟩)) (0 : Fin 1)).val := (hin 0).1
    rw [hn] at h0
    omega

/-- The bins are the ten edges. -/
theorem bins_eq : bins = fun i => edge (i 0) := by
  funext i
  obtain ⟨k, rfl⟩ : ∃ k : Fin 10, i = ix1 k := ⟨i 0, eq_ix1 i⟩
  have hb : bins (ix1 k) = Ideal.fptosi 32 (Ideal.liftRound Int.ceil (Ideal.div (Ideal.ofBits .f32 0x44800000#32
      + Ideal.ofBits .f32 0x477C0000#32 * cumulative (ix1 k)) (Ideal.ofBits .f32 0x42800000#32)) * Ideal.ofBits .f32 0x42800000#32) := rfl
  have hq := quotient_bounds k
  have hu : unit k < 2 ^ 20 := (by decide : ∀ k, unit k < 2 ^ 20) k
  rw [hb, bits_1024, bits_64512, bits_64, cumulative_apply, ← EReal.coe_mul, ← EReal.coe_add, div_real _ _ (by norm_num)]
  rw [Ideal.liftRound_coe, ← EReal.coe_mul]
  have hc : ⌈((1024 + 64512 * ((2 ^ (k.val + 1) - 1) / 1023)) / 64 : ℝ)⌉ = ((unit k + 1 : ℕ) : ℤ) :=
    Int.ceil_eq_iff.2 ⟨by push_cast; linarith [hq.1], by push_cast; exact hq.2⟩
  rw [hc, show ((((unit k + 1 : ℕ) : ℤ) : ℝ) * 64 : ℝ) = (((unit k + 1) * 64 : ℕ) : ℝ) by push_cast; ring,
    fptosi_real _ ((unit k + 1) * 64) (by omega) le_rfl (by linarith), BitVec.ofNat_mul]
  exact edge_unit k

/-! ## The edge of the capacity's bin -/

/-- Counting the first `n` of the ten bins, at most nine: the position is the count. -/
theorem position_first : ∀ n : Fin 11,
    position (minsi (Host.reduce IntOp.addi (extui 32 (fun i : S10.Idx => BitVec.ofBool (decide ((i 0).val < n.val))) natLt_1_32)
      (constantI S_ 32 0#32) reducesTo_S10_S_d0 h_S_) (constantI S_ 32 9#32)) (Shape.Idx.first h_S_) = BitVec.ofNat 32 (min n.val 9) := by
  decide

/-- Reading at a position below ten. -/
theorem edgeAt_eq (b : IVec S10 32) (p : IVec S_ 32) (k : Fin 10) (hp : p (Shape.Idx.first h_S_) = BitVec.ofNat 32 k.val) :
    edgeAt b p = fun _ => b (ix1 k) := by
  funext i
  refine congrArg b (funext fun a => Fin.ext ?_)
  rw [show a = 0 from Subsingleton.elim _ _]
  show (min (max (p (Shape.Idx.first h_S_)).toInt 0) ((10 - 1 : ℕ) : ℤ)).toNat + (Shape.reshapeEquiv shapeCasts_S1_S_ i 0).val = k.val
  have hz := (Shape.reshapeEquiv shapeCasts_S1_S_ i 0).isLt
  change _ < 1 at hz
  rw [hp, toInt_small _ (by omega)]
  omega

/-- The reference's last stages return the edge of the capacity's bin. -/
theorem stages_eq (cap : IVec S_ 32) (s : Fin 10) (hs : IsBin (cap ix0).toInt s) :
    edgeAt bins (position (count bins cap)) = fun _ => edge s := by
  obtain ⟨n, hn, hlt⟩ : ∃ n : Fin 11, min n.val 9 = s.val ∧ ∀ k : Fin 10, (edge k).toInt < (cap ix0).toInt ↔ k.val < n.val := by
    rcases le_or_gt (cap ix0).toInt (edge s).toInt with h | h
    · refine ⟨s.castSucc, by simp; omega, fun k => ⟨fun hk => ?_, fun hk => hs.1 k hk⟩⟩
      by_contra hc
      exact absurd (h.trans (edge_mono s k (not_lt.1 hc))) (not_le.2 hk)
    · have h9 : s = 9 := hs.2.resolve_right (not_le.2 h)
      subst h9
      exact ⟨10, rfl, fun k => ⟨fun _ => k.isLt, fun _ => lt_of_le_of_lt (edge_mono k 9 (by omega)) h⟩⟩
  have hbit : cmpi .slt bins (broadcastInDim S10 ![] bcast_S_S10 cap) = fun i : S10.Idx => BitVec.ofBool (decide ((i 0).val < n.val)) := by
    funext i
    have hcap : broadcastInDim S10 ![] bcast_S_S10 cap i = cap ix0 := congrArg cap (eq_ix0 _)
    show BitVec.ofBool ((bins i).slt (broadcastInDim S10 ![] bcast_S_S10 cap i)) = _
    rw [hcap, bins_eq]
    exact congrArg BitVec.ofBool (decide_eq_decide.2 (hlt (i 0)))
  rw [edgeAt_eq _ _ s ?_, bins_eq]
  unfold count
  rw [hbit, position_first n, hn]

end Cert.ReferenceIdeal.Bins

end
-- ==== Proof.RefRun.lean ====
/-
  The reference's run: every execution ends with its result at the stages of Proof/Reference.lean applied to the
  capacity, its arguments as they were and every semaphore at zero.
-/
module

public import proofs.«01_k».proof.Proof.Reference
public import Idealize.ShloMosaic.Lib.StableHlo.RunHlo
public import Idealize.ShloMosaic.Lib.StableHlo.RunRead
public import Idealize.ShloMosaic.Lib.Quiescent

@[expose] public section

noncomputable section

namespace Cert.ReferenceIdeal.Bins

open Cert.ReferenceIdeal Cert.ReferenceIdeal.Gen
open Idealize.ShloMosaic Idealize.ShloMosaic.StableHlo Idealize.SL.Sem

/-- The reference scopes no buffer -/
theorem no_scoped_refs : (Finset.univ.filter fun b : Ref sig .tc => b.isScoped) = ∅ := by decide
/-- and no semaphore. -/
theorem no_scoped_sems : (Finset.univ.filter fun sm : SemLoc sig => sm.isScoped .tc) = ∅ := by decide

/-- Every execution of the reference ends with the result at the edge that its stages give for the capacity, the
    arguments as they were and every semaphore at zero. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_v26) = edgeAt bins (position (count bins (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run_hlo defs main (by
      intro d
      unfold main fn_cumsum.body fn_cumsum_0.body
      simp only [bind_assoc, pure_bind]
      hlo_seq) no_scoped_refs no_scoped_sems (by exact ⟨
        nullary_bufs_sub .., nullary_bufs_sub .., unary_bufs_sub .., binary_bufs_sub .., nullary_bufs_sub ..,
        binary_bufs_sub .., unary_bufs_sub .., binary_bufs_sub .., nullary_bufs_sub .., unary_bufs_sub ..,
        binary_bufs_sub .., nullary_bufs_sub .., unary_bufs_sub .., binary_bufs_sub .., nullary_bufs_sub ..,
        unary_bufs_sub .., binary_bufs_sub .., nullary_bufs_sub .., unary_bufs_sub .., binary_bufs_sub ..,
        unary_bufs_sub .., nullary_bufs_sub .., unary_bufs_sub .., binary_bufs_sub .., unary_bufs_sub ..,
        unary_bufs_sub .., binary_bufs_sub .., unary_bufs_sub .., nullary_bufs_sub .., binary_bufs_sub ..,
        nullary_bufs_sub .., binary_bufs_sub .., nullary_bufs_sub .., binary_bufs_sub .., nullary_bufs_sub ..,
        binary_bufs_sub .., ternary_bufs_sub .., unaryIndexed_bufs_sub .., reshape_bufs_sub ..⟩)
      (by
        intro _ h
        repeat (cases h with | head => rfl | tail _ h => ?_)
        exact nomatch h) m ρ) ?hQ
  case hQ =>
    intro r h
    refine ⟨fun c => ⟨(h c main_v26).trans ?_, (h c main_arg0).trans ?_, (h c main_arg1).trans ?_⟩,
      sem_eq_zero_of_no_sems (by decide) r.2⟩
    · after_reads_simp
      simp only [TRef.toBuf, TRef.ofBuf, cast_eq]
      refine congrArg₂ (fun b f => shapeCast S_ (Host.dynamicSlice S1 b f sliceFits_S10_S1) shapeCasts_S1_S_) ?_ (funext fun k => ?_)
      · rfl
      · obtain rfl : k = 0 := Subsingleton.elim _ _
        simp only [Matrix.cons_val_zero, Matrix.cons_val_fin_one]
        after_reads_simp
        simp only [TRef.toBuf, TRef.ofBuf, cast_eq]
        rfl
    · after_reads_simp
    · after_reads_simp

end Cert.ReferenceIdeal.Bins

end
-- ==== Proof.lean ====
/-
  The proof of the certificate's claim: the kernel, the same kernel read over the real numbers and the reference each
  run to the end with their arguments unchanged and every semaphore at zero, and over the real numbers the kernel
  and the reference return the same capacity.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.KernelRun
public import proofs.«01_k».proof.Proof.IdealRun
public import proofs.«01_k».proof.Proof.Choice
public import proofs.«01_k».proof.Proof.RefRun
public import Idealize.ShloMosaic.Adequacy
public import Idealize.ShloMosaic.Init

@[expose] public section

noncomputable section

namespace Cert.Proof

open Idealize.ShloMosaic Idealize.SL.Sem

/-- The kernel's frame: its run with the returned value forgotten. -/
theorem frame_kernel : Cert.quiescent_Kernel (hKernel := Cert.Kernel.Gen.facts) := fun m ρ _ =>
  (θ_run _ _ _).mono (fun _ h => ⟨fun d => ⟨(h.1 d).1, (h.1 d).2.1⟩, h.2⟩) (Cert.Kernel.Run.run_main (F := Bits) m ρ)

/-- The frame of the kernel over the real numbers, likewise. -/
theorem frame_ideal : Cert.quiescent_KernelIdeal (hKernelIdeal := Cert.KernelIdeal.Gen.facts) := fun m ρ _ =>
  (θ_run _ _ _).mono (fun _ h => ⟨fun d => ⟨(h.1 d).1, (h.1 d).2.1⟩, h.2⟩) (Cert.KernelIdeal.Run.run_main (F := Ideal) m ρ)

/-- The reference's frame, likewise. -/
theorem frame_reference : Cert.quiescent_ReferenceIdeal (hReferenceIdeal := Cert.ReferenceIdeal.Gen.facts) := fun m ρ _ =>
  (θ_run _ _ _).mono (fun _ h => ⟨fun d => (h.1 d).2, h.2⟩) (Cert.ReferenceIdeal.Bins.run_main m ρ)

/-- Over the real numbers the kernel and the reference return the same: the edge of the capacity's bin. -/
theorem same_value : Cert.algebraic_KernelIdeal_ReferenceIdeal (hKernelIdeal := Cert.KernelIdeal.Gen.facts)
    (hReferenceIdeal := Cert.ReferenceIdeal.Gen.facts) := by
  intro m g m' g' _ hargs
  choose s hs using fun c : Dev Cert.KernelIdeal.nD =>
    Cert.KernelIdeal.Choice.exists_bin ((m (Cert.KernelIdeal.Run.argLoc c) : Vec Ideal Cert.KernelIdeal.S_ .i32) ValueIdx.ix0).toInt
  refine ⟨fun c => (fun _ => Cert.KernelIdeal.Edges.edge (s c) : Vec Ideal Cert.KernelIdeal.S_ .i32), ?_, ?_⟩
  · refine (θ_run _ _ _).mono (fun r h c => ⟨?_, (h.1 c).1, (h.1 c).2.1⟩) (Cert.KernelIdeal.Run.run_main (F := Ideal) m g)
    obtain ⟨f₀, hf⟩ := (h.1 c).2.2
    exact hf.trans (Cert.KernelIdeal.Choice.resultOf_eq _ f₀ (s c) (hs c))
  · refine (θ_run _ _ _).mono (fun r h c => ⟨?_, (h.1 c).2⟩) (Cert.ReferenceIdeal.Bins.run_main m' g')
    have hv := (h.1 c).1
    rw [(hargs c).2] at hv
    exact hv.trans (Cert.ReferenceIdeal.Bins.stages_eq _ (s c) (hs c))

/-- The certificate's claim. -/
theorem claim : Cert.Claim :=
  ⟨Cert.Kernel.Gen.facts, Cert.KernelIdeal.Gen.facts, Cert.ReferenceIdeal.Gen.facts,
    frame_kernel, frame_ideal, frame_reference, trivial, same_value⟩

end Cert.Proof

end
